-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S256x4096 : Shape := ⟨2, ![256, 4096]⟩
abbrev S256x1 : Shape := ⟨2, ![256, 1]⟩
abbrev S256x4095 : Shape := ⟨2, ![256, 4095]⟩
abbrev S256x2 : Shape := ⟨2, ![256, 2]⟩
abbrev S256x4094 : Shape := ⟨2, ![256, 4094]⟩
abbrev S256x4 : Shape := ⟨2, ![256, 4]⟩
abbrev S256x4092 : Shape := ⟨2, ![256, 4092]⟩
abbrev S256x8 : Shape := ⟨2, ![256, 8]⟩
abbrev S256x4088 : Shape := ⟨2, ![256, 4088]⟩
abbrev S256x16 : Shape := ⟨2, ![256, 16]⟩
abbrev S256x4080 : Shape := ⟨2, ![256, 4080]⟩
abbrev S256x32 : Shape := ⟨2, ![256, 32]⟩
abbrev S256x4064 : Shape := ⟨2, ![256, 4064]⟩
abbrev S256x64 : Shape := ⟨2, ![256, 64]⟩
abbrev S256x4032 : Shape := ⟨2, ![256, 4032]⟩
abbrev S256x128 : Shape := ⟨2, ![256, 128]⟩
abbrev S256x3968 : Shape := ⟨2, ![256, 3968]⟩
abbrev S256x256 : Shape := ⟨2, ![256, 256]⟩
abbrev S256x3840 : Shape := ⟨2, ![256, 3840]⟩
abbrev S256x512 : Shape := ⟨2, ![256, 512]⟩
abbrev S256x3584 : Shape := ⟨2, ![256, 3584]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S_, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S4096x4096, .f32⟩
  | .hbm, ⟨8, _⟩ => ⟨S_, .i32⟩
  | .hbm, ⟨9, _⟩ => ⟨S4096, .f32⟩
  | .hbm, ⟨10, _⟩ => ⟨S4096x4096, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x4096, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S_, .i32⟩
  | .hbm, ⟨19, _⟩ => ⟨S4096x4096, .f32⟩
  | .hbm, ⟨20, _⟩ => ⟨S_, .i32⟩
  | .hbm, ⟨21, _⟩ => ⟨S_, .i32⟩
  | .hbm, ⟨22, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v5 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v5 : Ref sig .tc := ⟨.hbm, 15, rfl⟩
abbrev main_while0b_v6 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v7 : Ref sig .tc := ⟨.hbm, 19, rfl⟩
abbrev main_while0b_c_4 : Ref sig .tc := ⟨.hbm, 20, rfl⟩
abbrev main_while0b_v8 : Ref sig .tc := ⟨.hbm, 21, rfl⟩
abbrev main_v4 : Ref sig .tc := ⟨.hbm, 22, rfl⟩

abbrev nD : Nat := 1
abbrev τ : Topo := Topo.v7x

variable {F : FTy → Type} [FloatOps F]

abbrev main_while0_count : Scf.Loop 32 := ⟨0#32, 4096#32, 1#32⟩
-- ==== Proof.Scan.lean ====
/-
  The mathematics the two programs share, with no program in it: products over a window of a sequence of extended reals.

  `window f w j` is the product of the `w` terms of `f` that end at term `j`, of fewer where `j` has fewer terms before it.
  Two facts are all the kernel's scan needs: two neighbouring windows of width `w` multiply to one of width `2w`
  (`window_double`), and a window wide enough is the product of every term up to `j` (`window_full`). The reference needs
  the product one term longer (`Finset.prod_range_succ`), which Mathlib has.
-/
module

public import Mathlib.Data.EReal.Inv
public import Mathlib.Algebra.BigOperators.Intervals
public import Idealize.ShloMosaic.Lib.ValueIdxCore

@[expose] public section

noncomputable section

namespace Cert.Scan

open Idealize.ShloMosaic

/-- The product of the `w` terms of `f` ending at term `j`: of the terms from `j + 1 - w` (or 0) to `j`. -/
def window (f : ℕ → EReal) (w j : ℕ) : EReal := ∏ k ∈ Finset.Ico (j + 1 - w) (j + 1), f k

/-- A window of width one is the term itself. -/
theorem window_one (f : ℕ → EReal) (j : ℕ) : window f 1 j = f j := by
  simp [window]

/-- The window of width `w` ending at `j` times the one ending `w` terms earlier, which is absent (the factor 1) where `j`
    has no such term, is the window of width `2w`. -/
theorem window_double (f : ℕ → EReal) (w j : ℕ) :
    window f w j * (if j < w then 1 else window f w (j - w)) = window f (2 * w) j := by
  unfold window
  by_cases hj : j < w
  · rw [if_pos hj, mul_one, show j + 1 - w = 0 by omega, show j + 1 - 2 * w = 0 by omega]
  · rw [if_neg hj, show j - w + 1 = j + 1 - w by omega, show j + 1 - w - w = j + 1 - 2 * w by omega, mul_comm]
    exact Finset.prod_Ico_consecutive f (by omega) (by omega)

/-- A window wider than the terms there are is the product of all of them. -/
theorem window_full (f : ℕ → EReal) {w j : ℕ} (h : j < w) : window f w j = ∏ k ∈ Finset.range (j + 1), f k := by
  rw [window, show j + 1 - w = 0 by omega, Finset.range_eq_Ico]

/-- Row `i` of a matrix of 4096 columns as a sequence (1 past the last column, which nothing reads). -/
def row {r : ℕ} (x : (⟨2, ![r, 4096]⟩ : Shape).Idx → EReal) (i : Fin r) (k : ℕ) : EReal :=
  if h : k < 4096 then x (ValueIdx.ix2 i ⟨k, h⟩) else 1

/-- At a column of the matrix the sequence's term is the entry. -/
theorem row_of_lt {r : ℕ} (x : (⟨2, ![r, 4096]⟩ : Shape).Idx → EReal) (i : Fin r) {k : ℕ} (h : k < 4096) :
    row x i k = x (ValueIdx.ix2 i ⟨k, h⟩) :=
  dif_pos h

/-- THE CUMULATIVE PRODUCT along the rows: entry `(i, j)` is the product of row `i`'s columns 0 to `j`. -/
def cumprod {r : ℕ} (x : (⟨2, ![r, 4096]⟩ : Shape).Idx → EReal) (y : (⟨2, ![r, 4096]⟩ : Shape).Idx) : EReal :=
  ∏ k ∈ Finset.range ((y 1).val + 1), row x (y 0) k

/-- The cumulative product goes row by row: of rows taken out of a matrix it is the rows taken out of the matrix's. -/
theorem cumprod_rows {r R : ℕ} {x : (⟨2, ![r, 4096]⟩ : Shape).Idx → EReal} {A : (⟨2, ![R, 4096]⟩ : Shape).Idx → EReal}
    (e : Fin r → Fin R) (h : ∀ i k, x (ValueIdx.ix2 i k) = A (ValueIdx.ix2 (e i) k)) (i : Fin r) (j : Fin 4096) :
    cumprod x (ValueIdx.ix2 i j) = cumprod A (ValueIdx.ix2 (e i) j) := by
  have hrow : row x i = row A (e i) := by
    funext k
    unfold row
    split
    · exact h i _
    · rfl
  show ∏ k ∈ Finset.range (j.val + 1), row x i k = ∏ k ∈ Finset.range (j.val + 1), row A (e i) k
  rw [hrow]

end Cert.Scan

end
-- ==== Proof.Block.lean ====
/-
  What one block computes, at the ideal instance: the body's payload of a 256 × 4096 block is the block's cumulative product.

  The body takes twelve steps of one shape, at the shifts 1, 2, 4, …, 2048: multiply the block by itself moved `s` columns to
  the right, ones coming in at the left. `step` is that step at any shift, `step_window` what it does: it turns windows of
  width `s` into windows of width `2s`. The payload is by unfolding the twelve steps in a row, so from windows of width 1,
  the entries themselves, it reaches width 2048 after eleven (`holds_pay2`) and 4096, the whole prefix, after the last
  (`payload_eq`).
-/
module

public import proofs.«01_k».proof.Proof.Scan
public import proofs.«01_k».proof.Proof.Gen.KernelIdeal.Skeleton
public import Idealize.ShloMosaic.PureOps.Ideal
public import Idealize.ShloMosaic.Lib.Pipeline.Value

@[expose] public section

noncomputable section

namespace Cert.Scan.Block

open Idealize.ShloMosaic Cert.KernelIdeal Cert.KernelIdeal.Gen Cert.Scan

/-- The bf16 word the body writes at the left stands for the number one. -/
theorem one_bf16 : (Scalar.ofBits (F := Ideal) .bf16 0x3F80#16 : EReal) = 1 := by
  show Ideal.ofBits .bf16 0x3F80#16 = 1
  simp [Ideal.ofBits, Ideal.ieee, -EReal.coe_mul]
  norm_num

/-- One step of the scan at shift `s` (`t` columns are kept, `s + t = 4096`): the block times the block moved `s` columns
    right with ones at the left. -/
def step (s t : ℕ) (hs : S256x4096.Slices ![0, 0] ⟨2, ![256, t]⟩)
    (hc : Shape.Concatenates [⟨2, ![256, s]⟩, ⟨2, ![256, t]⟩] S256x4096 1)
    (v : FVec Ideal S256x4096 .bf16) : FVec Ideal S256x4096 .bf16 :=
  mulf v (concatenate S256x4096 1 [⟨⟨2, ![256, s]⟩, broadcast ⟨2, ![256, s]⟩ (Scalar.ofBits .bf16 0x3F80#16 : Ideal .bf16)⟩,
    ⟨⟨2, ![256, t]⟩, extractStridedSlice ⟨2, ![256, t]⟩ ![0, 0] v hs⟩] hc)

/-- The block moved `s` columns right, at an index: one in the first `s` columns, the entry `s` columns to the left beyond. -/
theorem shifted_apply (s t : ℕ) (hst : s + t = 4096) (hs : S256x4096.Slices ![0, 0] ⟨2, ![256, t]⟩)
    (hc : Shape.Concatenates [⟨2, ![256, s]⟩, ⟨2, ![256, t]⟩] S256x4096 1)
    (v : FVec Ideal S256x4096 .bf16) (i : Fin 256) (j : Fin 4096) :
    concatenate S256x4096 1 [⟨⟨2, ![256, s]⟩, broadcast ⟨2, ![256, s]⟩ (Scalar.ofBits .bf16 0x3F80#16 : Ideal .bf16)⟩,
      ⟨⟨2, ![256, t]⟩, extractStridedSlice ⟨2, ![256, t]⟩ ![0, 0] v hs⟩] hc (ValueIdx.ix2 i j)
      = if j.val < s then (1 : EReal) else v (ValueIdx.ix2 i ⟨j.val - s, by omega⟩) := by
  by_cases hj : j.val < s
  · rw [if_pos hj, concatenate_pair_apply_left (s₁ := ⟨2, ![256, s]⟩) (s₂ := ⟨2, ![256, t]⟩) 1 _ _ hc _ rfl
      (ValueIdx.ix2 i ⟨j.val, hj⟩) (fun b => by match b with | ⟨0, _⟩ => rfl | ⟨1, _⟩ => rfl)]
    exact one_bf16
  · have hjt : j.val - s < t := by omega
    rw [if_neg hj, concatenate_pair_apply_right (s₁ := ⟨2, ![256, s]⟩) (s₂ := ⟨2, ![256, t]⟩) 1 _ _ hc _ rfl rfl
      (ValueIdx.ix2 i ⟨j.val - s, hjt⟩)
      (fun b hb => by match b with | ⟨0, _⟩ => rfl | ⟨1, _⟩ => exact absurd rfl hb)
      (by show j.val - s + s = j.val; omega)]
    refine extractStridedSlice_apply _ _ _ _ _ fun a => ?_
    match a with
    | ⟨0, _⟩ => exact (Nat.zero_add _).symm
    | ⟨1, _⟩ => exact (Nat.zero_add _).symm

/-- `v` holds, at every entry, the product of the window of `x`'s row of width `w` that ends there. -/
def Holds (x : FVec Ideal S256x4096 .f32) (w : ℕ) (v : FVec Ideal S256x4096 .bf16) : Prop :=
  ∀ (i : Fin 256) (j : Fin 4096), v (ValueIdx.ix2 i j) = window (row x i) w j.val

/-- A step at shift `s` doubles the windows' width from `s`. -/
theorem step_window {x : FVec Ideal S256x4096 .f32} {v : FVec Ideal S256x4096 .bf16} (s t : ℕ) (hst : s + t = 4096)
    (hs : S256x4096.Slices ![0, 0] ⟨2, ![256, t]⟩) (hc : Shape.Concatenates [⟨2, ![256, s]⟩, ⟨2, ![256, t]⟩] S256x4096 1)
    (h : Holds x s v) : Holds x (2 * s) (step s t hs hc v) := by
  intro i j
  rw [← window_double]
  exact congrArg₂ (· * ·) (h i j) ((shifted_apply s t hst hs hc v i j).trans (by rw [h i ⟨j.val - s, _⟩]))

/-- Narrowing to bf16 changes no ideal value: before the first step every entry is its own window. -/
theorem holds_one (x : FVec Ideal S256x4096 .f32) : Holds x 1 (truncf .bf16 x bitsLt_bf16_f32) := by
  intro i j
  rw [window_one]
  exact (row_of_lt x i j.isLt).symm

/-- The eleven steps of the first payload leave windows of width 2048. -/
theorem holds_pay2 (x : FVec Ideal S256x4096 .f32) : Holds x 2048 (k0_pay2 (F := Ideal) x) :=
  step_window 1024 3072 rfl _ _ <| step_window 512 3584 rfl _ _ <| step_window 256 3840 rfl _ _ <|
  step_window 128 3968 rfl _ _ <| step_window 64 4032 rfl _ _ <| step_window 32 4064 rfl _ _ <|
  step_window 16 4080 rfl _ _ <| step_window 8 4088 rfl _ _ <| step_window 4 4092 rfl _ _ <|
  step_window 2 4094 rfl _ _ <| step_window 1 4095 rfl _ _ <| holds_one x

/-- THE BLOCK: what the body stores is the cumulative product of the block it loads. -/
theorem payload_eq (x : FVec Ideal S256x4096 .f32) : k0_pay1 (F := Ideal) (k0_pay2 x) = cumprod x := by
  have h : Holds x 4096 (k0_pay1 (F := Ideal) (k0_pay2 x)) :=
    step_window 2048 2048 rfl slices_S256x4096_o0_0_S256x2048 concatenates_S256x2048_S256x2048_S256x4096_d1 (holds_pay2 x)
  funext y
  rw [ValueIdx.eq_ix2 y]
  exact (h (y 0) (y 1)).trans (window_full _ (y 1).isLt)

end Cert.Scan.Block

end
-- ==== Proof.Array.lean ====
/-
  What the kernel's result array holds after the run, at the ideal instance: the cumulative product of the argument.

  Grid point `t` loads rows `256 t` to `256 t + 255` of the argument, all 4096 columns, and writes back the same rows of the
  result. A row's products stay in the row, so the block's cumulative product (Block.lean) is the block of the whole
  matrix's (`after_apply`); the sixteen blocks cover the array, which therefore ends at the cumulative product (`final`).
-/
module

public import proofs.«01_k».proof.Proof.Block
public import proofs.«01_k».proof.Proof.Gen.KernelIdeal.Value
public import Idealize.ShloMosaic.Lib.Pipeline.ValueKit.Geometry

@[expose] public section

noncomputable section

namespace Cert.Scan.Array

open Idealize.ShloMosaic Idealize.ShloMosaic.TcCoe Idealize.SL.Sem Cert.KernelIdeal Cert.KernelIdeal.Gen Cert.Scan
open Idealize.ShloMosaic.Pipeline (Dat)

variable (m : (ℓ : Loc nD τ sig) → Buf (Elt Ideal) ℓ) (ρ : Dev nD → PrngReg)

/-- The argument array of device `c`. -/
abbrev arg (c : Dev nD) : S4096x4096.Idx → EReal := m ((c : Thread nD τ).loc main_arg0)

/-- Both windows' block index at a point is the point's number in the rows and zero in the columns. -/
theorem index_eq : ∀ t : Fin cfg0.N, (win0_0.index t 0 = t.val ∧ win0_0.index t 1 = 0)
    ∧ win0_1.index t 0 = t.val ∧ win0_1.index t 1 = 0 :=
  (by decide +kernel : ∀ t : Fin grid0.N, (win0_0.index t 0 = t.val ∧ win0_0.index t 1 = 0)
    ∧ win0_1.index t 0 = t.val ∧ win0_1.index t 1 = 0)

/-- The matrix's row that is row `i` of point `t`'s block. -/
def rowOf (t : Fin cfg0.N) (i : Fin 256) : Fin 4096 :=
  ⟨t.val * 256 + i.val, by have h : t.val < 16 := N_0 ▸ t.isLt; omega⟩

/-- A block's place in its array: block index `(t, 0)` puts entry `(i, j)` at the matrix's row for it and its own column. -/
theorem place {e : S256x4096.Idx → S4096x4096.Idx} {b : Fin 2 → ℕ} {t : Fin cfg0.N} (hb : b 0 = t.val ∧ b 1 = 0)
    (he : ∀ y a, (e y a).val = b a * S256x4096.size a + (y a).val) (i : Fin 256) (j : Fin 4096) :
    e (ValueIdx.ix2 i j) = ValueIdx.ix2 (rowOf t i) j := by
  funext a
  apply Fin.ext
  rw [he]
  match a with
  | ⟨0, _⟩ => show b 0 * 256 + i.val = t.val * 256 + i.val; rw [hb.1]
  | ⟨1, _⟩ => show b 1 * 4096 + j.val = j.val; rw [hb.2, Nat.zero_mul, Nat.zero_add]

/-- An entry of the argument's block sits in the array at its row of the matrix and its own column; -/
theorem emb_in (t : Fin cfg0.N) (i : Fin 256) (j : Fin 4096) :
    (win0_0.rect t).emb (ValueIdx.ix2 i j) = ValueIdx.ix2 (rowOf t i) j :=
  place (index_eq t).1 (fun y a => win0_0.rect_emb_val t y a) i j

/-- and so does an entry of the result's block. -/
theorem emb_out (t : Fin cfg0.N) (i : Fin 256) (j : Fin 4096) :
    (win0_1.rect t).emb (ValueIdx.ix2 i j) = ValueIdx.ix2 (rowOf t i) j :=
  place (index_eq t).2 (fun y a => win0_1.rect_emb_val t y a) i j

/-- The block the body loads at point `t` is the argument's rows of that point. -/
theorem loaded_apply (c : Dev nD) (t : Fin cfg0.N) (i : Fin 256) (j : Fin 4096) :
    iblk m c 0 t (ValueIdx.ix2 i j) = arg m c (ValueIdx.ix2 (rowOf t i) j) :=
  congrArg (arg m c) (emb_in t i j)

/-- What the body stores is the cumulative product of the block it loads. -/
theorem stored_eq (x : Vec Ideal S256x4096 .f32) : out0_1 x = cumprod x := by
  have hz : (![0, 0] : Fin 2 → Nat) = fun _ => 0 := funext fun a => by fin_cases a <;> rfl
  unfold out0_1
  rw [View.canon_unit_zero hz, View.ld_unit_zero hz]
  exact Block.payload_eq x

/-- What point `t` leaves at an entry of its block is the whole matrix's cumulative product there. -/
theorem after_apply (c : Dev nD) (t : Fin cfg0.N) (i : Fin 256) (j : Fin 4096) :
    (dats m 0 c).after 1 t (ValueIdx.ix2 i j) = cumprod (arg m c) ((win0_1.rect t).emb (ValueIdx.ix2 i j)) := by
  rw [after0_1, stored_eq, emb_out]
  exact cumprod_rows (rowOf t) (fun i k => loaded_apply m c t i k) i j

/-- THE ARRAY: after the run the result is the cumulative product of the argument. -/
theorem final (c : Dev nD) : (dats m 0 c).arrAt 1 cfg0.N = cumprod (arg m c) := by
  refine (dats m 0 c).arrAt_eq_of_covers 1 _ (by decide +kernel) fun t _ y => ?_
  obtain ⟨i, j, rfl⟩ : ∃ (i : Fin 256) (j : Fin 4096), y = ValueIdx.ix2 i j := ⟨_, _, ValueIdx.eq_ix2 y⟩
  exact after_apply m c t i j

/-- THE KERNEL'S RUN at the ideal instance: the result is the cumulative product of the argument, which is unchanged. -/
theorem run : θ_run defs (onTc (τ := τ) (main (F := Ideal))) ⟨m, fun _ => 0, ρ⟩ fun r => ∀ c : Dev nD,
      r.2.mem ((c : Thread nD τ).loc main_v0) = cumprod (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.Scan.Array

end
-- ==== Proof.Reference.lean ====
/-
  What the reference computes, at the ideal instance: a scan over the columns, read as the cumulative product.

  The scan carries the argument transposed, a counter, the running product of every row, and the columns written so far (as
  rows of a transposed result). Before trip `k` (`State`): the counter is `k`, the running product of row `i` is the product
  of its first `k` entries, and the first `k` rows of the result so far are the cumulative product transposed. One trip keeps
  this (`state_succ`), so after all 4096 the result transposed back is the cumulative product (`out_eq`).
-/
module

public import proofs.«01_k».proof.Proof.Scan
public import proofs.«01_k».proof.Proof.Gen.ReferenceIdeal.Run
public import Idealize.ShloMosaic.PureOps.Ideal
public import Idealize.ShloMosaic.Lib.Pipeline.Value
public import Idealize.ShloMosaic.Lib.DynamicIndex
public import Idealize.ShloMosaic.Lib.Pointwise.ShapeOpsCore

@[expose] public section

noncomputable section

namespace Cert.Scan.Reference

open Idealize.ShloMosaic Idealize.ShloMosaic.TcCoe Idealize.SL.Sem Idealize.ShloMosaic.StableHlo
open Cert.ReferenceIdeal Cert.ReferenceIdeal.Gen Cert.ReferenceIdeal.Value Cert.Scan

variable (m : (ℓ : Loc nD τ sig) → Buf (Elt Ideal) ℓ) (ρ : Dev nD → PrngReg)

/-- The argument array of device `c`. -/
abbrev arg (c : Dev nD) : S4096x4096.Idx → EReal := m ((c.tc : Thread nD τ).loc main_arg0)

/-- The f32 word the running products start from stands for the number one. -/
theorem one_f32 : (Scalar.ofBits (F := Ideal) .f32 0x3F800000#32 : EReal) = 1 := by
  show Ideal.ofBits .f32 0x3F800000#32 = 1
  simp [Ideal.ofBits, Ideal.ieee, -EReal.coe_mul]
  norm_num

/-- What the loop carries before trip `k`, of the argument `x`. -/
structure State (x : S4096x4096.Idx → EReal) (k : ℕ) (W : Valuation τ sig (Elt Ideal)) : Prop where
  /-- The argument transposed, -/
  cols : ∀ i j : Fin 4096, W (Proc.devRef .tc main_v3_0) (ValueIdx.ix2 j i) = x (ValueIdx.ix2 i j)
  /-- the counter at the trip's number, -/
  ctr : W (Proc.devRef .tc main_v3_1) = fun _ => BitVec.ofNat 32 k
  /-- every row's running product, -/
  acc : ∀ i : Fin 4096, W (Proc.devRef .tc main_v3_2) (ValueIdx.ix1 i) = ∏ l ∈ Finset.range k, row x i l
  /-- and the finished columns, as rows. -/
  done : ∀ i j : Fin 4096, j.val < k → W (Proc.devRef .tc main_v3_3) (ValueIdx.ix2 j i) = cumprod x (ValueIdx.ix2 i j)

/-- A matrix transposed, at an index, is the matrix at the index with its coordinates exchanged. -/
theorem transposed_apply (x : S4096x4096.Idx → EReal) (i j : Fin 4096) :
    transpose S4096x4096 [1, 0] x transposes_S4096x4096_S4096x4096_1_0 (ValueIdx.ix2 j i) = x (ValueIdx.ix2 i j) :=
  transpose_apply _ _ _ _ _ fun b => by
    match b with
    | ⟨0, _⟩ => rfl
    | ⟨1, _⟩ => rfl

/-- Before the first trip: the counter at zero, the running products at one, nothing finished. -/
theorem state_zero (c : Dev nD) : State (arg m c) 0 (entryContents preI m c) where
  cols i j := by
    have h : entryContents preI m c (Proc.devRef .tc main_v3_0)
        = transpose S4096x4096 [1, 0] (arg m c) transposes_S4096x4096_S4096x4096_1_0 := by
      simp only [entryContents, afterL_cons, afterL_nil]
      after_reads_simp
      rfl
    rw [h]
    exact transposed_apply _ i j
  ctr := ctr_entry m c
  acc i := by
    have h : entryContents preI m c (Proc.devRef .tc main_v3_2) = fun _ => Scalar.ofBits (F := Ideal) .f32 0x3F800000#32 := by
      simp only [entryContents, afterL_cons, afterL_nil]
      after_reads_simp
      rfl
    rw [h, Finset.prod_range_zero]
    exact one_f32
  done _ j h := absurd h (Nat.not_lt_zero _)

/-- A counter below the trip count, read signed, is the number. -/
theorem ctr_toInt {k : ℕ} (hk : k < 4096) : (BitVec.ofNat 32 k).toInt = (k : Int) := toInt_ofNat_of_lt (by omega)

variable {x : S4096x4096.Idx → EReal} {k : ℕ} {W : Valuation τ sig (Elt Ideal)}

/-- Where a trip reads its column and writes its result: at the counter's row, from the left edge. -/
def start (W : Valuation τ sig (Elt Ideal)) (a : Fin 2) : Int :=
  ((![W (Proc.devRef .tc main_v3_1), constantI S_ 32 0#32] : Fin 2 → (⟨S_, .i32⟩ : BufTy).Contents (Elt Ideal)) a
    (Shape.Idx.first h_S_)).toInt

/-- Before trip `k` that is row `k`. -/
theorem start_eq (hk : k < 4096) (h : State x k W) (a : Fin 2) : start W a = ((![k, 0] : Fin 2 → ℕ) a : Int) := by
  match a with
  | ⟨0, _⟩ => exact (congrArg (fun c => (c (Shape.Idx.first h_S_)).toInt) h.ctr).trans (ctr_toInt hk)
  | ⟨1, _⟩ => rfl

/-- One whole row at row `k` lies inside the matrix. -/
theorem row_fits (hk : k < 4096) : S4096x4096.Slices ![k, 0] S1x4096 :=
  ⟨rfl, fun a => by
    match a with
    | ⟨0, _⟩ => exact hk
    | ⟨1, _⟩ => exact le_rfl⟩

/-- The column a trip reads, flattened to a vector: column `k` of the argument. -/
theorem col_apply (hk : k < 4096) (h : State x k W) (i : Fin 4096) :
    shapeCast S4096 (Host.dynamicSlice S1x4096 (W (Proc.devRef .tc main_v3_0)) (start W) sliceFits_S4096x4096_S1x4096)
      shapeCasts_S1x4096_S4096 (ValueIdx.ix1 i) = row x i k := by
  rw [Host.dynamicSlice_eq_extractStridedSlice _ _ _ ![k, 0] _ (row_fits hk) (start_eq hk h)]
  refine (shapeCast_dropUnit_apply ![4096] _ _ _).trans ?_
  refine (extractStridedSlice_apply _ _ _ _ (ValueIdx.ix2 (⟨k, hk⟩ : Fin 4096) i) fun a => ?_).trans
    ((h.cols i ⟨k, hk⟩).trans (row_of_lt x i hk).symm)
  match a with
  | ⟨0, _⟩ => rfl
  | ⟨1, _⟩ => exact (Nat.zero_add _).symm

/-- Writing one row into a matrix: that row is the new one, every other as it was. -/
theorem write_apply (hk : k < 4096) (y : S4096x4096.Idx → EReal) (u : S1x4096.Idx → EReal) (i j : Fin 4096) :
    updateSlice y u ![k, 0] (row_fits hk) (ValueIdx.ix2 j i)
      = if j.val = k then u (ValueIdx.ix2 (0 : Fin 1) i) else y (ValueIdx.ix2 j i) := by
  rw [updateSlice_apply]
  by_cases hj : j.val = k
  · rw [if_pos hj, dif_pos fun a => by
      match a with
      | ⟨0, _⟩ => exact ⟨hj.ge, hj ▸ Nat.lt_succ_self _⟩
      | ⟨1, _⟩ => exact ⟨Nat.zero_le _, (Nat.zero_add 4096).symm ▸ i.isLt⟩]
    refine congrArg u (funext fun a => Fin.ext ?_)
    match a with
    | ⟨0, _⟩ => exact Nat.sub_eq_zero_of_le hj.le
    | ⟨1, _⟩ => rfl
  · rw [if_neg hj, dif_neg fun hin => hj (le_antisymm (Nat.lt_succ_iff.1 (hin 0).2) (hin 0).1)]

/-- Trip `k` multiplies row `i`'s running product by the row's entry `k`. -/
theorem mul_apply (hk : k < 4096) (h : State x k W) (i : Fin 4096) :
    res_main_while0b_v6 W (ValueIdx.ix1 i) = ∏ l ∈ Finset.range (k + 1), row x i l := by
  rw [Finset.prod_range_succ, ← h.acc i, ← col_apply hk h i]
  rfl

/-- One trip takes the state before trip `k` to the state before trip `k + 1`. -/
theorem state_succ (hk : k < 4096) (h : State x k W) : State x (k + 1) (STEP W) where
  cols i j := by rw [STEP_main_v3_0]; exact h.cols i j
  ctr := by
    rw [STEP_main_v3_1]
    unfold step_main_v3_1
    rw [h.ctr]
    funext _
    exact BitVec.ofNat_add_ofNat k 1
  acc i := by
    rw [STEP_main_v3_2]
    exact mul_apply hk h i
  done i j hj := by
    rw [STEP_main_v3_3]
    refine (congrFun (Host.dynamicUpdateSlice_eq_updateSlice (s := S4096x4096) (u := S1x4096) _ _ (start W)
      updateFits_S4096x4096_S1x4096 ![k, 0] (fun a => ?_) (row_fits hk)) _).trans ?_
    · have hfit := (row_fits hk).2 a
      rw [start_eq hk h]
      omega
    rw [write_apply hk]
    split
    next hjk =>
      refine (broadcastInDim_apply _ _ _ _ (ValueIdx.ix1 i) fun a => by match a with | ⟨0, _⟩ => rfl).trans ?_
      rw [mul_apply hk h i, ← hjk]
      rfl
    next hjk => exact h.done i j (by omega)

/-- After `k` trips the state is the one before trip `k`. -/
theorem state_iter (c : Dev nD) : ∀ k, k ≤ 4096 → State (arg m c) k (STEP^[k] (entryContents preI m c))
  | 0, _ => state_zero m c
  | k + 1, hk => by
    rw [Function.iterate_succ_apply']
    exact state_succ (by omega) (state_iter c k (by omega))

/-- THE REFERENCE: the result is the cumulative product of the argument. -/
theorem out_eq (c : Dev nD) : out_main_v4 (STEP^[4096] (entryContents preI m c)) = cumprod (arg m c) := by
  funext y
  rw [ValueIdx.eq_ix2 y]
  unfold out_main_v4
  exact (transposed_apply _ (y 1) (y 0)).trans ((state_iter m c 4096 le_rfl).done (y 0) (y 1) (y 1).isLt)

/-- THE REFERENCE'S RUN at the ideal instance: the result is the cumulative product of the argument, which is unchanged. -/
theorem run : θ_run defs (onTc (τ := τ) (main (F := Ideal))) ⟨m, fun _ => 0, ρ⟩ fun r => ∀ c : Dev nD,
      r.2.mem ((c.tc : Thread nD τ).loc main_v4) = cumprod (arg m c)
      ∧ r.2.mem ((c.tc : Thread nD τ).loc main_arg0) = m ((c.tc : Thread nD τ).loc main_arg0) :=
  (θ_run defs _ _).mono (fun _ h c => ⟨(h c).1.trans (out_eq m c), (h c).2⟩) (Value.run m ρ)

end Cert.Scan.Reference

end
-- ==== Proof.lean ====
/- The claims about the bf16 log-step scan, put together: the frames of the kernel, of its ideal reading and of the reference;
   that the ideal reading is the kernel's own text; and the equation — over the extended reals kernel and reference both
   leave the cumulative product along the rows. The steps are in Proof/Scan.lean (the products), Proof/Block.lean (one
   block), Proof/Array.lean (the result array) and Proof/Reference.lean (the reference). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the argument unchanged, and it has no semaphore to leave above zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The equation: from memories that agree on the argument, the kernel and the reference both leave in the result the
    cumulative product, along the rows, of that argument. -/
theorem equation : Cert.algebraic_KernelIdeal_ReferenceIdeal := by
  intro m ρ m' ρ' _ hagree
  refine ⟨fun c => Cert.Scan.cumprod (Cert.Scan.Array.arg m c), Cert.Scan.Array.run m ρ, ?_⟩
  refine (θ_run Cert.ReferenceIdeal.defs _ _).mono (fun _ h c => ⟨(h c).1.trans ?_, (h c).2⟩) (Cert.Scan.Reference.run m' ρ')
  exact congrArg Cert.Scan.cumprod (hagree c)

/-- All five claims: the two kernels' frames are the generated ones, the kernel's text was not rewritten, and the rest is
    above. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equation⟩

end Cert.Proof

end
